-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masked_rows_finite [hPre_masked_rows_finite : Cert.Pre_masked_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_masked_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masked_rows_finite [hPre_masked_rows_finite : Cert.Pre_masked_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masked_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_masked_rows_finite [hKernelIdeal : Cert.KernelIdeal.Facts] [hPre_masked_rows_finite : Cert.Pre_masked_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masked_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_masked_rows_finite [hReferenceIdeal : Cert.ReferenceIdeal.Facts] [hPre_masked_rows_finite : Cert.Pre_masked_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masked_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_masked_rows_finite [hKernelIdeal : Cert.KernelIdeal.Facts] [hReferenceIdeal : Cert.ReferenceIdeal.Facts] [hPre_masked_rows_finite : Cert.Pre_masked_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masked_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_masked_rows_finite : Cert.Pre_masked_rows_finite.Facts),
    quiescent_Kernel (hKernel := hKernel)
    ∧ quiescent_KernelIdeal (hKernelIdeal := hKernelIdeal)
    ∧ quiescent_KernelIdeal_pre_masked_rows_finite (hKernelIdeal := hKernelIdeal) (hPre_masked_rows_finite := hPre_masked_rows_finite)
    ∧ quiescent_ReferenceIdeal (hReferenceIdeal := hReferenceIdeal)
    ∧ quiescent_ReferenceIdeal_pre_masked_rows_finite (hReferenceIdeal := hReferenceIdeal) (hPre_masked_rows_finite := hPre_masked_rows_finite)
    ∧ preserves_Kernel_KernelIdeal
    ∧ algebraic_KernelIdeal_ReferenceIdeal_pre_masked_rows_finite (hKernelIdeal := hKernelIdeal) (hReferenceIdeal := hReferenceIdeal) (hPre_masked_rows_finite := hPre_masked_rows_finite)
-- ==== Pre_masked_rows_finite.lean ====
abbrev S8192x2048 : Shape := ⟨2, ![8192, 2048]⟩
abbrev S8192 : Shape := ⟨1, ![8192]⟩
abbrev S2048 : Shape := ⟨1, ![2048]⟩
abbrev S8192x1 : Shape := ⟨2, ![8192, 1]⟩
abbrev S_ : Shape := ⟨0, ![]⟩

class Facts : Prop where
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)

variable [Facts]

def fn_where {F : FTy → Type} [FloatOps F] (arg0 : IVec S8192x1 1) (arg1 : IVec S8192x2048 1) (arg2 : IVec S_ 1) : IVec S8192x2048 1 :=
  let v0 : IVec S8192x2048 1 := broadcastInDim S8192x2048 ![0, 1] bcast_S8192x1_S8192x2048_0_1 arg0
  let v1 : IVec S8192x2048 1 := broadcastInDim S8192x2048 ![] bcast_S_S8192x2048 arg2
  let v2 : IVec S8192x2048 1 := select v0 arg1 v1
  v2

def fn {F : FTy → Type} [FloatOps F] (main_arg0 : FVec F S8192x2048 .f32) (main_arg1 : IVec S8192 1) (main_arg2 : FVec F S2048 .f32) (main_arg3 : FVec F S2048 .f32) (main_arg4 : FVec F S2048 .f32) : IVec S8192x2048 1 :=
  let main_v0 : IVec S8192x1 1 := broadcastInDim S8192x1 ![0] bcast_S8192_S8192x1_0 main_arg1
  let main_v1 : FVec F S8192x2048 .f32 := Host.absf main_arg0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S8192x2048 1 := fn_where (F := F) main_v0 main_v3 main_c
  main_v4
-- ==== Kernel.lean ====
abbrev S8192x2048 : Shape := ⟨2, ![8192, 2048]⟩
abbrev S8192 : Shape := ⟨1, ![8192]⟩
abbrev S2048 : Shape := ⟨1, ![2048]⟩
abbrev S8192x1 : Shape := ⟨2, ![8192, 1]⟩
abbrev S1x2048 : Shape := ⟨2, ![1, 2048]⟩
abbrev S3x2048 : Shape := ⟨2, ![3, 2048]⟩
abbrev S1024x2048 : Shape := ⟨2, ![1024, 2048]⟩
abbrev S1024x1 : Shape := ⟨2, ![1024, 1]⟩
abbrev S1x1x2048 : Shape := ⟨3, ![1, 1, 2048]⟩
abbrev S1 : Shape := ⟨1, ![1]⟩
abbrev S1x1x1 : Shape := ⟨3, ![1, 1, 1]⟩
abbrev S1024x3 : Shape := ⟨2, ![1024, 3]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192, .i1⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8192, .f32⟩
  | .hbm, ⟨6, _⟩ => ⟨S8192x1, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S3x2048, .f32⟩
  | .hbm, ⟨11, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1, .f32⟩
  | .local _ .vmem, ⟨3, _⟩ => ⟨S1024x1, .f32⟩
  | .local _ .vmem, ⟨4, _⟩ => ⟨S3x2048, .f32⟩
  | .local _ .vmem, ⟨5, _⟩ => ⟨S1024x2048, .f32⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x2048 : Shape := ⟨2, ![8192, 2048]⟩
abbrev S8192 : Shape := ⟨1, ![8192]⟩
abbrev S2048 : Shape := ⟨1, ![2048]⟩
abbrev S_ : Shape := ⟨0, ![]⟩
abbrev S8192x1 : Shape := ⟨2, ![8192, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i1⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8192, .f32⟩
  | .hbm, ⟨6, _⟩ => ⟨S2048, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Proof.Rows.lean ====
/-
  The mathematics of one row, over the extended reals, with no program in sight.

  A row `t` has its projections onto three directions `f`, `s`, `b` removed one after another, and then `b` added
  (`sequentialRow`). The kernel computes all the inner products from the ORIGINAL row and corrects them by the inner
  products of the directions (`gramRow`). `gramRow_eq_sequentialRow`: the two agree when the row's mask `m` is 0, and
  when it is 1 and the row is finite. Nothing is asked of the directions: of a direction that is zero every multiple is
  zero, and of a direction with an infinite entry the square norm is `⊤`, so that its coefficient is zero.
-/
module

public import Idealize.ShloMosaic.PureOps.Ideal

@[expose] public section

noncomputable section

namespace Cert.Rows

open Idealize.ShloMosaic

variable {ι : Type} [Fintype ι]

/-- The inner product of two rows. -/
def dot (x y : ι → EReal) : EReal := ∑ k, x k * y k

/-- The coefficient of the projection of `t` onto `d`. -/
def coef (t d : ι → EReal) : EReal := Ideal.div (dot t d) (dot d d)

/-- One step of the sequential algorithm: the row less `m` times its projection onto `d`. -/
def step (m : EReal) (t d : ι → EReal) : ι → EReal := fun j => t j - m * coef t d * d j

/-- The sequential algorithm: three projections removed in turn, each from what the last one left, then `m` times the
    third direction added. -/
def sequentialRow (m : EReal) (t f s b : ι → EReal) : ι → EReal :=
  fun j => step m (step m (step m t f) s) b j + 1 * m * b j

/-- The kernel's first coefficient. -/
def gramF (m : EReal) (t f : ι → EReal) : EReal := m * Ideal.div (dot t f) (dot f f)
/-- The kernel's second coefficient, by the inner product of the first two directions. -/
def gramS (m : EReal) (t f s : ι → EReal) : EReal := m * Ideal.div (dot t s - gramF m t f * dot f s) (dot s s)
/-- The kernel's third coefficient, less the one by which the third direction is added back. -/
def gramB (m : EReal) (t f s b : ι → EReal) : EReal :=
  m * (Ideal.div (dot t b - gramF m t f * dot f b - gramS m t f s * dot s b) (dot b b) - 1)

/-- The kernel's row: the three corrections subtracted at once. -/
def gramRow (m : EReal) (t f s b : ι → EReal) : ι → EReal :=
  fun j => t j - gramF m t f * f j - gramS m t f s * s j - gramB m t f s b * b j

/-! ## Finite sums of reals inside the extended reals -/

/-- The inner product of two real rows is real. -/
theorem dot_coe (x y : ι → ℝ) : dot (fun k => (x k : EReal)) (fun k => (y k : EReal)) = ((∑ k, x k * y k : ℝ) : EReal) := by
  unfold dot
  simp only [← EReal.coe_mul]
  exact (map_sum (⟨⟨Real.toEReal, EReal.coe_zero⟩, EReal.coe_add⟩ : ℝ →+ EReal) (fun k => x k * y k) Finset.univ).symm

/-- A square is not negative. -/
theorem square_nonneg (x : EReal) : 0 ≤ x * x := by
  induction x with
  | bot => simp
  | top => simp
  | coe r => rw [← EReal.coe_mul]; exact EReal.coe_nonneg.mpr (mul_self_nonneg r)

/-- A direction with an infinite entry has square norm `⊤`. -/
theorem dot_self_eq_top {d : ι → EReal} {k : ι} (h : d k = ⊤ ∨ d k = ⊥) : dot d d = ⊤ := by
  have hk : d k * d k = ⊤ := by rcases h with h | h <;> rw [h] <;> simp
  refine top_le_iff.mp (hk ▸ ?_)
  exact Finset.single_le_sum (f := fun i => d i * d i) (fun i _ => square_nonneg (d i)) (Finset.mem_univ k)

/-- A quotient by `⊤` is zero. -/
theorem div_top (x : EReal) : Ideal.div x ⊤ = 0 := by
  unfold Ideal.div; rw [if_neg (by simp), EReal.inv_top, mul_zero]

/-- A direction is zero, or has an infinite entry, or is a real row whose square norm is not zero. -/
theorem direction_cases (d : ι → EReal) :
    (∀ k, d k = 0) ∨ dot d d = ⊤ ∨ ∃ r : ι → ℝ, d = (fun k => (r k : EReal)) ∧ ∑ k, r k * r k ≠ 0 := by
  by_cases h : ∃ k, d k = ⊤ ∨ d k = ⊥
  · obtain ⟨k, hk⟩ := h
    exact .inr (.inl (dot_self_eq_top hk))
  · push Not at h
    have e : d = fun k => ((d k).toReal : EReal) := funext fun k => (EReal.coe_toReal (h k).1 (h k).2).symm
    by_cases hz : ∑ k, (d k).toReal * (d k).toReal = 0
    · left
      intro k
      have := (Finset.sum_eq_zero_iff_of_nonneg (fun i _ => mul_self_nonneg (d i).toReal)).mp hz k (Finset.mem_univ k)
      rw [congrFun e k, mul_self_eq_zero.mp this, EReal.coe_zero]
    · exact .inr (.inr ⟨_, e, hz⟩)

/-- A real numerator over a real square norm that is not zero is real. -/
theorem div_coe_coe {y : ℝ} (h : y ≠ 0) (x : ℝ) : Ideal.div (x : EReal) (y : EReal) = ((x / y : ℝ) : EReal) := by
  rw [Ideal.div_coe h, ← EReal.coe_mul, mul_one_div]

/-! ## One removed projection -/

/-- Of a real row `t`, the removed multiple `coef t d · d` is a real row `p`, whatever `d` is; and its inner product
    with a real row `e` is the coefficient times the inner product of `d` with `e`. -/
theorem removed (t : ι → ℝ) (d : ι → EReal) :
    ∃ p : ι → ℝ, (∀ j, coef (fun k => (t k : EReal)) d * d j = (p j : EReal))
      ∧ ∀ e : ι → ℝ, coef (fun k => (t k : EReal)) d * dot d (fun k => (e k : EReal)) = ((∑ k, p k * e k : ℝ) : EReal) := by
  rcases direction_cases d with h | h | ⟨r, rfl, hr⟩
  · refine ⟨fun _ => 0, fun j => by rw [h j, mul_zero, EReal.coe_zero], fun e => ?_⟩
    have : dot d (fun k => (e k : EReal)) = 0 := Finset.sum_eq_zero fun k _ => by rw [h k, zero_mul]
    rw [this, mul_zero]
    simp
  · have hc : coef (fun k => (t k : EReal)) d = 0 := by unfold coef; rw [h, div_top]
    exact ⟨fun _ => 0, fun j => by rw [hc, zero_mul, EReal.coe_zero], fun e => by rw [hc, zero_mul]; simp⟩
  · have hc : coef (fun k => (t k : EReal)) (fun k => (r k : EReal)) = (((∑ k, t k * r k) / ∑ k, r k * r k : ℝ) : EReal) := by
      unfold coef; rw [dot_coe, dot_coe, div_coe_coe hr]
    refine ⟨fun j => ((∑ k, t k * r k) / ∑ k, r k * r k) * r j, fun j => by rw [hc, EReal.coe_mul], fun e => ?_⟩
    rw [hc, dot_coe, ← EReal.coe_mul, Finset.mul_sum]
    simp only [mul_assoc]

/-- A quotient by a square norm depends on the numerator only where the direction is real. -/
theorem div_congr (d : ι → EReal) (x y : EReal) (h : ∀ r : ι → ℝ, d = (fun k => (r k : EReal)) → x = y) :
    Ideal.div x (dot d d) = Ideal.div y (dot d d) := by
  rcases direction_cases d with h0 | ht | ⟨r, hr, _⟩
  · rw [h (fun _ => 0) (funext fun k => by rw [h0 k, EReal.coe_zero])]
  · rw [ht, div_top, div_top]
  · rw [h r hr]

/-- The coefficient of what is left after one removal, from the original row's inner products. -/
theorem coef_sub (t p : ι → ℝ) (c : EReal) (d e : ι → EReal)
    (h : ∀ r : ι → ℝ, c * dot d (fun k => (r k : EReal)) = ((∑ k, p k * r k : ℝ) : EReal)) :
    coef (fun k => ((t k - p k : ℝ) : EReal)) e = Ideal.div (dot (fun k => (t k : EReal)) e - c * dot d e) (dot e e) := by
  refine div_congr e _ _ ?_
  rintro r rfl
  rw [h, dot_coe, dot_coe, ← EReal.coe_sub, ← Finset.sum_sub_distrib]
  simp only [sub_mul]

/-- The coefficient of what is left after two removals, from the original row's inner products. -/
theorem coef_sub_sub (t p q : ι → ℝ) (c c' : EReal) (d d' e : ι → EReal)
    (h : ∀ r : ι → ℝ, c * dot d (fun k => (r k : EReal)) = ((∑ k, p k * r k : ℝ) : EReal))
    (h' : ∀ r : ι → ℝ, c' * dot d' (fun k => (r k : EReal)) = ((∑ k, q k * r k : ℝ) : EReal)) :
    coef (fun k => ((t k - p k - q k : ℝ) : EReal)) e
      = Ideal.div (dot (fun k => (t k : EReal)) e - c * dot d e - c' * dot d' e) (dot e e) := by
  refine div_congr e _ _ ?_
  rintro r rfl
  rw [h, h', dot_coe, dot_coe, ← EReal.coe_sub, ← EReal.coe_sub, ← Finset.sum_sub_distrib, ← Finset.sum_sub_distrib]
  simp only [sub_mul]

/-- The last direction's projection removed and the direction added, or both at once. -/
theorem last_step (t : ι → ℝ) (b : ι → EReal) (j : ι) :
    (t j : EReal) - coef (fun k => (t k : EReal)) b * b j + b j
      = (t j : EReal) - (coef (fun k => (t k : EReal)) b - 1) * b j := by
  rcases direction_cases b with h | h | ⟨r, rfl, hr⟩
  · rw [h j, mul_zero, mul_zero, sub_zero, add_zero]
  · have hc : coef (fun k => (t k : EReal)) b = 0 := by unfold coef; rw [h, div_top]
    rw [hc, zero_mul, sub_zero, zero_sub, EReal.neg_mul, one_mul, sub_eq_add_neg, neg_neg]
  · have hc : coef (fun k => (t k : EReal)) (fun k => (r k : EReal)) = (((∑ k, t k * r k) / ∑ k, r k * r k : ℝ) : EReal) := by
      unfold coef; rw [dot_coe, dot_coe, div_coe_coe hr]
    rw [hc, ← EReal.coe_one, ← EReal.coe_sub, ← EReal.coe_mul, ← EReal.coe_mul, ← EReal.coe_sub, ← EReal.coe_sub,
      ← EReal.coe_add]
    exact congrArg Real.toEReal (by ring)

/-! ## The two algorithms -/

/-- A row that the mask leaves out is left as it is by both. -/
theorem gramRow_zero (t f s b : ι → EReal) : gramRow 0 t f s b = sequentialRow 0 t f s b := by
  funext j
  simp [gramRow, sequentialRow, gramF, gramS, gramB, step]

/-- A finite row that the mask selects gets the same from both. -/
theorem gramRow_one (t : ι → ℝ) (f s b : ι → EReal) :
    gramRow 1 (fun k => (t k : EReal)) f s b = sequentialRow 1 (fun k => (t k : EReal)) f s b := by
  obtain ⟨p, hp, hpe⟩ := removed t f
  have e1 : step 1 (fun k => (t k : EReal)) f = fun k => ((t k - p k : ℝ) : EReal) := by
    funext j; unfold step; rw [one_mul, hp, EReal.coe_sub]
  have hF : gramF 1 (fun k => (t k : EReal)) f = coef (fun k => (t k : EReal)) f := one_mul _
  obtain ⟨q, hq, hqe⟩ := removed (fun k => t k - p k) s
  have e2 : step 1 (fun k => ((t k - p k : ℝ) : EReal)) s = fun k => ((t k - p k - q k : ℝ) : EReal) := by
    funext j; unfold step; rw [one_mul, hq, EReal.coe_sub _ (q j)]
  have hS : gramS 1 (fun k => (t k : EReal)) f s = coef (fun k => ((t k - p k : ℝ) : EReal)) s := by
    unfold gramS; rw [one_mul, hF, coef_sub t p _ f s hpe]
  have hB : gramB 1 (fun k => (t k : EReal)) f s b = coef (fun k => ((t k - p k - q k : ℝ) : EReal)) b - 1 := by
    unfold gramB; rw [one_mul, hF, hS, coef_sub_sub t p q _ _ f s b hpe hqe]
  funext j
  unfold gramRow sequentialRow
  rw [e1, e2, hF, hS, hB, hp, hq, ← EReal.coe_sub, ← EReal.coe_sub,
    ← last_step (fun k => t k - p k - q k) b j]
  unfold step
  rw [one_mul, one_mul, one_mul]

/-- The kernel's row is the sequential algorithm's: a row left out by the mask, or a finite row that it selects. -/
theorem gramRow_eq_sequentialRow (m : EReal) (t f s b : ι → EReal)
    (h : m = 0 ∨ m = 1 ∧ ∀ k, t k ≠ ⊤ ∧ t k ≠ ⊥) : gramRow m t f s b = sequentialRow m t f s b := by
  rcases h with rfl | ⟨rfl, ht⟩
  · exact gramRow_zero t f s b
  · rw [show t = fun k => ((t k).toReal : EReal) from funext fun k => (EReal.coe_toReal (ht k).1 (ht k).2).symm]
    exact gramRow_one _ f s b

end Cert.Rows

end
-- ==== Proof.Block.lean ====
/-
  What one grid point of the kernel computes, read at an index of its block.

  The body works on a block of 1024 rows `x`, the column `w` of their masks and the table `d` of the three directions.
  `pay1_apply`: entry (r, l) of what it stores is `Rows.gramRow` of row r, at l.
-/
module

public import proofs.«01_k».proof.Proof.Gen.KernelIdeal.Frame
public import proofs.«01_k».proof.Proof.Rows
public import Idealize.ShloMosaic.Lib.Pointwise
public import Idealize.ShloMosaic.Lib.Pipeline.Value

@[expose] public section

noncomputable section

namespace Cert.KernelIdeal.Block

open Cert.KernelIdeal Cert.KernelIdeal.Gen Cert.Rows
open Idealize.ShloMosaic Idealize.SL.Sem

variable (x : FVec Ideal S1024x2048 .f32) (w : FVec Ideal S1024x1 .f32) (d : FVec Ideal S3x2048 .f32)

/-- The first direction is row 0 of the table. -/
theorem pay3_apply (u : Fin 1) (k : Fin 2048) : k0_pay3 d (ix2 u k) = d (ix2 0 k) := by
  pointwise [k0_pay3, k0_pay2]
/-- The second direction is row 1 of the table. -/
theorem pay4_apply (u : Fin 1) (k : Fin 2048) : k0_pay4 d (ix2 u k) = d (ix2 1 k) := by
  pointwise [k0_pay4, k0_pay2]
/-- The third direction is row 2 of the table. -/
theorem pay5_apply (u : Fin 1) (k : Fin 2048) : k0_pay5 d (ix2 u k) = d (ix2 2 k) := by
  pointwise [k0_pay5, k0_pay2]

/-- The second direction's square norm. -/
theorem pay6_eq : k0_pay6 (F := Ideal) d = dot (fun k : Fin 2048 => d (ix2 1 k)) (fun k => d (ix2 1 k)) := by
  pointwise [k0_pay6, k0_pay4, k0_pay2]
  exact Fintype.sum_unique _
/-- The third direction's square norm. -/
theorem pay7_eq : k0_pay7 (F := Ideal) d = dot (fun k : Fin 2048 => d (ix2 2 k)) (fun k => d (ix2 2 k)) := by
  pointwise [k0_pay7, k0_pay5, k0_pay2]
  exact Fintype.sum_unique _
/-- The inner product of the first direction and the third. -/
theorem pay8_eq : k0_pay8 (F := Ideal) d = dot (fun k : Fin 2048 => d (ix2 0 k)) (fun k => d (ix2 2 k)) := by
  pointwise [k0_pay8, k0_pay3, k0_pay5, k0_pay2]
  exact Fintype.sum_unique _
/-- The inner product of the second direction and the third. -/
theorem pay9_eq : k0_pay9 (F := Ideal) d = dot (fun k : Fin 2048 => d (ix2 1 k)) (fun k => d (ix2 2 k)) := by
  pointwise [k0_pay9, k0_pay4, k0_pay5, k0_pay2]
  exact Fintype.sum_unique _

/-- The matrix product: entry (r, q) is the inner product of row r with direction q. -/
theorem pay10_apply (r : Fin 1024) (q : Fin 3) :
    k0_pay10 (F := Ideal) d x (ix2 r q) = dot (fun k : Fin 2048 => x (ix2 r k)) (fun k => d (ix2 q k)) := by
  pointwise [k0_pay10, k0_pay2]
  rfl

/-- The mask column, as loaded. -/
theorem pay11_apply (r : Fin 1024) (u : Fin 1) : k0_pay11 (F := Ideal) w (ix2 r u) = w (ix2 r u) := by
  pointwise [k0_pay11]

/-- The first coefficient of row r. -/
theorem pay12_apply (r : Fin 1024) :
    k0_pay12 (F := Ideal) d x w (ix2 r 0) = gramF (w (ix2 r 0)) (fun k : Fin 2048 => x (ix2 r k)) (fun k => d (ix2 0 k)) := by
  pointwise [k0_pay12]
  simp only [pay10_apply, pay11_apply, pay3_apply, Fintype.sum_unique]
  rfl

/-- The second column of the matrix product. -/
theorem pay13_apply (r : Fin 1024) :
    k0_pay13 (F := Ideal) d x (ix2 r 0) = dot (fun k : Fin 2048 => x (ix2 r k)) (fun k => d (ix2 1 k)) := by
  pointwise [k0_pay13]
  exact pay10_apply x d r 1

/-- The first coefficient times the inner product of the first two directions. -/
theorem pay14_apply (r : Fin 1024) :
    k0_pay14 (F := Ideal) d x w (ix2 r 0) = gramF (w (ix2 r 0)) (fun k : Fin 2048 => x (ix2 r k)) (fun k => d (ix2 0 k))
        * dot (fun k : Fin 2048 => d (ix2 0 k)) (fun k => d (ix2 1 k)) := by
  pointwise [k0_pay14]
  simp only [pay12_apply, pay3_apply, pay4_apply, Fintype.sum_unique]
  rfl

/-- What the body stores: entry (r, l) is the kernel's row r at l. -/
theorem pay1_apply (r : Fin 1024) (l : Fin 2048) :
    k0_pay1 (F := Ideal) (k0_pay3 d) (k0_pay4 d) (k0_pay5 d) (k0_pay6 d) (k0_pay7 d) (k0_pay8 d) (k0_pay9 d) (k0_pay10 d x)
        (k0_pay11 w) (k0_pay12 d x w) (k0_pay13 d x) (k0_pay14 d x w) x (ix2 r l)
      = gramRow (w (ix2 r 0)) (fun k : Fin 2048 => x (ix2 r k)) (fun k => d (ix2 0 k)) (fun k => d (ix2 1 k))
          (fun k => d (ix2 2 k)) l := by
  pointwise [k0_pay1]
  simp only [pay3_apply, pay4_apply, pay5_apply, pay6_eq, pay7_eq, pay8_eq, pay9_eq, pay10_apply, pay11_apply, pay12_apply,
    pay13_apply, pay14_apply, Ideal.ofBits_one_f32]
  rfl

/-- Every load and the store of the body start at the origin. -/
theorem origin : (![0, 0] : Fin 2 → Nat) = fun _ => 0 := funext fun a => by fin_cases a <;> rfl

/-- The block a grid point leaves, at an index. -/
theorem out_apply (r : Fin 1024) (l : Fin 2048) :
    out0_3 (F := Ideal) x w d (ix2 r l)
      = gramRow (w (ix2 r 0)) (fun k : Fin 2048 => x (ix2 r k)) (fun k => d (ix2 0 k)) (fun k => d (ix2 1 k))
          (fun k => d (ix2 2 k)) l := by
  unfold out0_3
  rw [View.canon_unit_zero origin, View.ld_unit_zero origin, View.ld_unit_zero origin, View.ld_unit_zero origin]
  exact pay1_apply x w d r l

end Cert.KernelIdeal.Block

end
-- ==== Proof.Array.lean ====
/-
  What the kernel's result array holds after the run.

  The host code before the kernel lays the mask out as a column and stacks the three directions; grid point t works on rows
  1024 t .. 1024 t + 1023 and writes them back. `final`: after the eight points, row r of the result is `Rows.gramRow` of
  row r of the argument, and `run` is the program's run with the result read that way.
-/
module

public import proofs.«01_k».proof.Proof.Gen.KernelIdeal.Value
public import proofs.«01_k».proof.Proof.Block

@[expose] public section

noncomputable section

namespace Cert.KernelIdeal.Array

open Cert.KernelIdeal Cert.KernelIdeal.Gen Cert.KernelIdeal.Block Cert.Rows
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments, as rows -/

/-- Row r of the first argument. -/
def rowT (c : Dev nD) (r : Fin 8192) : Fin 2048 → EReal := fun k => (m ((c : Thread nD τ).loc main_arg0) : FVec Ideal S8192x2048 .f32) (ix2 r k)
/-- Row r's mask, as a number. -/
def mask (c : Dev nD) (r : Fin 8192) : EReal :=
  (uitofp .f32 (m ((c : Thread nD τ).loc main_arg1) : IVec S8192 1) : FVec Ideal S8192 .f32) (ix1 r)
/-- The first direction. -/
def dirF (c : Dev nD) : Fin 2048 → EReal := fun k => (m ((c : Thread nD τ).loc main_arg2) : FVec Ideal S2048 .f32) (ix1 k)
/-- The second direction. -/
def dirS (c : Dev nD) : Fin 2048 → EReal := fun k => (m ((c : Thread nD τ).loc main_arg3) : FVec Ideal S2048 .f32) (ix1 k)
/-- The third direction. -/
def dirB (c : Dev nD) : Fin 2048 → EReal := fun k => (m ((c : Thread nD τ).loc main_arg4) : FVec Ideal S2048 .f32) (ix1 k)

/-- The kernel's result, as a function of the arguments. -/
def result (c : Dev nD) : Buf (Elt Ideal) ((c : Thread nD τ).loc main_v6) :=
  fun i : S8192x2048.Idx => gramRow (mask m c (i 0)) (rowT m c (i 0)) (dirF m c) (dirS m c) (dirB m c) (i 1)

/-! ## The buffers the host code prepares -/

/-- The mask column: entry (r, 0) is row r's mask. -/
theorem V_column (c : Dev nD) (r : Fin 8192) : (V m c main_v1 : FVec Ideal S8192x1 .f32) (ix2 r 0) = mask m c r := by
  have e : (V m c main_v1 : FVec Ideal S8192x1 .f32)
      = shapeCast S8192x1 (uitofp .f32 (m ((c : Thread nD τ).loc main_arg1) : IVec S8192 1) : FVec Ideal S8192 .f32) shapeCasts_S8192_S8192x1 := by
    unfold V; after_results_simp; rfl
  rw [e]
  pointwise [mask]

/-- The stacked directions, as one array. -/
theorem V_table (c : Dev nD) : (V m c main_v5 : FVec Ideal S3x2048 .f32)
    = concatenate S3x2048 0
        [⟨S1x2048, broadcastInDim S1x2048 ![1] bcast_S2048_S1x2048_1 (m ((c : Thread nD τ).loc main_arg2) : FVec Ideal S2048 .f32)⟩,
         ⟨S1x2048, broadcastInDim S1x2048 ![1] bcast_S2048_S1x2048_1 (m ((c : Thread nD τ).loc main_arg3) : FVec Ideal S2048 .f32)⟩,
         ⟨S1x2048, broadcastInDim S1x2048 ![1] bcast_S2048_S1x2048_1 (m ((c : Thread nD τ).loc main_arg4) : FVec Ideal S2048 .f32)⟩]
        concatenates_S1x2048_S1x2048_S1x2048_S3x2048_d0 := by
  unfold V; after_results_simp; rfl

/-- Row 0 of the stack is the first direction. -/
theorem V_table_f (c : Dev nD) (k : Fin 2048) : (V m c main_v5 : FVec Ideal S3x2048 .f32) (ix2 0 k) = dirF m c k := by
  rw [V_table]
  pointwise [dirF]
/-- Row 1 of the stack is the second direction. -/
theorem V_table_s (c : Dev nD) (k : Fin 2048) : (V m c main_v5 : FVec Ideal S3x2048 .f32) (ix2 1 k) = dirS m c k := by
  rw [V_table]
  pointwise [dirS]
/-- Row 2 of the stack is the third direction. -/
theorem V_table_b (c : Dev nD) (k : Fin 2048) : (V m c main_v5 : FVec Ideal S3x2048 .f32) (ix2 2 k) = dirB m c k := by
  rw [V_table]
  pointwise [dirB]

/-! ## The blocks -/

/-- The row of the array that is row r of point t's block. -/
def rowOf (t : Fin cfg0.N) (r : Fin 1024) : Fin 8192 :=
  ⟨t.val * 1024 + r.val, by have h : t.val < 8 := lt_of_lt_of_eq t.isLt N_0; omega⟩

/-- The rows' block at point t is block t of the argument. -/
theorem index0 : ∀ t : Fin cfg0.N, win0_0.index t (0 : Fin 2) = t.val ∧ win0_0.index t (1 : Fin 2) = 0 :=
  (by decide +kernel : ∀ t : Fin grid0.N, _)
/-- The masks' block at point t is block t of the column. -/
theorem index1 : ∀ t : Fin cfg0.N, win0_1.index t (0 : Fin 2) = t.val ∧ win0_1.index t (1 : Fin 2) = 0 :=
  (by decide +kernel : ∀ t : Fin grid0.N, _)
/-- The table's block is the same at every point. -/
theorem index2 : ∀ t : Fin cfg0.N, win0_2.index t (0 : Fin 2) = 0 ∧ win0_2.index t (1 : Fin 2) = 0 :=
  (by decide +kernel : ∀ t : Fin grid0.N, _)
/-- The result's block at point t is block t of the result. -/
theorem index3 : ∀ t : Fin cfg0.N, win0_3.index t (0 : Fin 2) = t.val ∧ win0_3.index t (1 : Fin 2) = 0 :=
  (by decide +kernel : ∀ t : Fin grid0.N, _)

/-- Entry (r, k) of the rows' block, in the argument. -/
theorem emb0 (t : Fin cfg0.N) (r : Fin 1024) (k : Fin 2048) :
    ((cfg0.win 0).blk t).view.emb (ix2 r k : S1024x2048.Idx) = (ix2 (rowOf t r) k : S8192x2048.Idx) := by
  obtain ⟨e0, e1⟩ := index0 t
  funext a; apply Fin.ext
  match a with
  | ⟨0, _⟩ => show win0_0.index t (0 : Fin 2) * 1024 + 1 * r.val = t.val * 1024 + r.val; omega
  | ⟨1, _⟩ => show win0_0.index t (1 : Fin 2) * 2048 + 1 * k.val = k.val; omega
/-- Entry (r, 0) of the masks' block, in the column. -/
theorem emb1 (t : Fin cfg0.N) (r : Fin 1024) (u : Fin 1) :
    ((cfg0.win 1).blk t).view.emb (ix2 r u : S1024x1.Idx) = (ix2 (rowOf t r) u : S8192x1.Idx) := by
  obtain ⟨e0, e1⟩ := index1 t
  funext a; apply Fin.ext
  match a with
  | ⟨0, _⟩ => show win0_1.index t (0 : Fin 2) * 1024 + 1 * r.val = t.val * 1024 + r.val; omega
  | ⟨1, _⟩ => show win0_1.index t (1 : Fin 2) * 1 + 1 * u.val = u.val; omega
/-- Entry (q, k) of the table's block, in the table. -/
theorem emb2 (t : Fin cfg0.N) (q : Fin 3) (k : Fin 2048) :
    ((cfg0.win 2).blk t).view.emb (ix2 q k : S3x2048.Idx) = (ix2 q k : S3x2048.Idx) := by
  obtain ⟨e0, e1⟩ := index2 t
  funext a; apply Fin.ext
  match a with
  | ⟨0, _⟩ => show win0_2.index t (0 : Fin 2) * 3 + 1 * q.val = q.val; omega
  | ⟨1, _⟩ => show win0_2.index t (1 : Fin 2) * 2048 + 1 * k.val = k.val; omega
/-- Entry (r, k) of the result's block, in the result. -/
theorem emb3 (t : Fin cfg0.N) (r : Fin 1024) (k : Fin 2048) :
    ((cfg0.win 3).blk t).view.emb (ix2 r k : S1024x2048.Idx) = (ix2 (rowOf t r) k : S8192x2048.Idx) := by
  obtain ⟨e0, e1⟩ := index3 t
  funext a; apply Fin.ext
  match a with
  | ⟨0, _⟩ => show win0_3.index t (0 : Fin 2) * 1024 + 1 * r.val = t.val * 1024 + r.val; omega
  | ⟨1, _⟩ => show win0_3.index t (1 : Fin 2) * 2048 + 1 * k.val = k.val; omega

/-- The rows a point works on. -/
theorem block0 (c : Dev nD) (t : Fin cfg0.N) (r : Fin 1024) (k : Fin 2048) :
    (iblk m c 0 t : FVec Ideal S1024x2048 .f32) (ix2 r k) = rowT m c (rowOf t r) k := by
  show (V m c main_arg0 : FVec Ideal S8192x2048 .f32) (((cfg0.win 0).blk t).view.emb (ix2 r k : S1024x2048.Idx)) = _
  rw [emb0, V_main_arg0]; rfl
/-- Their masks. -/
theorem block1 (c : Dev nD) (t : Fin cfg0.N) (r : Fin 1024) :
    (iblk m c 1 t : FVec Ideal S1024x1 .f32) (ix2 r 0) = mask m c (rowOf t r) := by
  show (V m c main_v1 : FVec Ideal S8192x1 .f32) (((cfg0.win 1).blk t).view.emb (ix2 r 0 : S1024x1.Idx)) = _
  rw [emb1]; exact V_column m c _
/-- The table of the directions, whole at every point. -/
theorem block2 (c : Dev nD) (t : Fin cfg0.N) (q : Fin 3) (k : Fin 2048) :
    (iblk m c 2 t : FVec Ideal S3x2048 .f32) (ix2 q k) = (V m c main_v5 : FVec Ideal S3x2048 .f32) (ix2 q k) := by
  show (V m c main_v5 : FVec Ideal S3x2048 .f32) (((cfg0.win 2).blk t).view.emb (ix2 q k : S3x2048.Idx)) = _
  rw [emb2]

/-! ## The array -/

/-- An index of a row block is a row and a column of it. -/
theorem block_index (j : S1024x2048.Idx) : ∃ (r : Fin 1024) (k : Fin 2048), j = ix2 r k :=
  ⟨j 0, j 1, funext fun a => by match a with | ⟨0, _⟩ => rfl | ⟨1, _⟩ => rfl⟩

/-- An index of the array is a row of some point's block and a column. -/
theorem array_index (i : S8192x2048.Idx) : ∃ (t : Fin cfg0.N) (r : Fin 1024) (k : Fin 2048), i = ix2 (rowOf t r) k := by
  have h0 : (i 0).val < 8192 := (i 0).isLt
  refine ⟨⟨(i 0).val / 1024, lt_of_lt_of_eq (by omega) N_0.symm⟩, ⟨(i 0).val % 1024, Nat.mod_lt _ (by omega)⟩, i 1, funext fun a => ?_⟩
  match a with
  | ⟨0, _⟩ => exact Fin.ext (by show (i 0).val = (i 0).val / 1024 * 1024 + (i 0).val % 1024; omega)
  | ⟨1, _⟩ => rfl

/-- The result's blocks are whole: none is cut at the array's edge. -/
theorem cut_apply (t : Fin cfg0.N) (X : FVec Ideal S1024x2048 .f32) (j : S1024x2048.Idx) :
    (cfg0.win 3).cut (grid0.coords t) X j = X j := rfl

/-- An array read through the result's block, at an index. -/
theorem read_apply (t : Fin cfg0.N) (X : FVec Ideal S8192x2048 .f32) (r : Fin 1024) (k : Fin 2048) :
    ((cfg0.win 3).blk t).view.read (Elt Ideal) X (ix2 r k : S1024x2048.Idx) = X (ix2 (rowOf t r) k) :=
  congrArg X (emb3 t r k)

/-- The block a point computes, by the array's rows. -/
theorem out_block (c : Dev nD) (t : Fin cfg0.N) (r : Fin 1024) (k : Fin 2048) :
    out0_3 (F := Ideal) (iblk m c 0 t) (iblk m c 1 t) (iblk m c 2 t) (ix2 r k)
      = gramRow (mask m c (rowOf t r)) (rowT m c (rowOf t r)) (dirF m c) (dirS m c) (dirB m c) k := by
  refine (out_apply (iblk m c 0 t) (iblk m c 1 t) (iblk m c 2 t) r k).trans ?_
  rw [block1 m c t r, funext (block0 m c t r), funext (fun k => (block2 m c t 0 k).trans (V_table_f m c k)),
    funext (fun k => (block2 m c t 1 k).trans (V_table_s m c k)), funext (fun k => (block2 m c t 2 k).trans (V_table_b m c k))]

/-- What a point writes back is its block of the result. -/
theorem flushed_eq (c : Dev nD) (t : Fin cfg0.N) :
    (dats m 0 c).flushed 3 t = ((cfg0.win 3).blk t).view.read (Elt Ideal) (result m c) := by
  rw [Value.flushed3]
  refine funext fun (j : S1024x2048.Idx) => ?_
  obtain ⟨r, k, rfl⟩ := block_index j
  exact (cut_apply t _ _).trans ((out_block m c t r k).trans (read_apply t (result m c) r k).symm)

/-- Every index of the result lies in the block of the point that its row belongs to. -/
theorem cover (i : S8192x2048.Idx) :
    ∃ t : Fin cfg0.N, (cfg0.win 3).flush t = true ∧ i ∈ ((cfg0.win 3).blk t).view.set := by
  obtain ⟨t, r, k, rfl⟩ := array_index i
  exact ⟨t, flush0_3 t, emb3 t r k ▸ ((cfg0.win 3).blk t).view.emb_mem_set (ix2 r k : S1024x2048.Idx)⟩

/-- The result array after the last point. -/
theorem final (c : Dev nD) : (dats m 0 c).arrAt 3 cfg0.N = result m c :=
  (dats m 0 c).arrAt_eq_of_cover 3 (result m c) (fun t _ => flushed_eq m c t) cover

/-- Every execution of the kernel's program ends with its result array at `result` and its arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Array

end
-- ==== Proof.Reference.lean ====
/-
  What the reference computes, read at an index: entry (r, l) of its result is `Rows.sequentialRow` of row r, at l. And
  what the precondition says of a row: that its mask is 0, or that its mask is 1 and its entries are finite.
-/
module

public import proofs.«01_k».proof.Proof.Gen.ReferenceIdeal.Run
public import proofs.«01_k».proof.Proof.Gen.Pre_masked_rows_finite
public import proofs.«01_k».proof.Proof.Rows
public import Idealize.ShloMosaic.Lib.Pointwise

@[expose] public section

noncomputable section

namespace Cert.ReferenceIdeal.Read

open Cert.ReferenceIdeal Cert.ReferenceIdeal.Gen Cert.Rows
open Idealize.ShloMosaic Idealize.ShloMosaic.TcCoe Idealize.SL.Sem

variable (m : (ℓ : Loc nD τ sig) → Buf (Elt Ideal) ℓ)

set_option maxRecDepth 8192 in
/-- The reference's result at (r, l): the sequential algorithm on row r. -/
theorem res_apply (c : Dev nD) (r : Fin 8192) (l : Fin 2048) :
    (Value.res_out0 m c : FVec Ideal S8192x2048 .f32) (ix2 r l)
      = sequentialRow ((uitofp .f32 (m ((c.tc : Thread nD τ).loc main_arg1) : IVec S8192 1) : FVec Ideal S8192 .f32) (ix1 r))
          (fun k : Fin 2048 => (m ((c.tc : Thread nD τ).loc main_arg0) : FVec Ideal S8192x2048 .f32) (ix2 r k))
          (fun k => (m ((c.tc : Thread nD τ).loc main_arg2) : FVec Ideal S2048 .f32) (ix1 k))
          (fun k => (m ((c.tc : Thread nD τ).loc main_arg3) : FVec Ideal S2048 .f32) (ix1 k))
          (fun k => (m ((c.tc : Thread nD τ).loc main_arg4) : FVec Ideal S2048 .f32) (ix1 k)) l := by
  unfold Value.res_out0
  pointwise [Value.res_main_v47, sequentialRow, step, coef, dot]

end Cert.ReferenceIdeal.Read

namespace Cert.Pre_masked_rows_finite.Read

open Cert.Pre_masked_rows_finite Cert.Rows
open Idealize.ShloMosaic Idealize.SL.Sem

/-- The bits of positive infinity are `⊤`. -/
theorem ofBits_infinity : Ideal.ofBits .f32 0x7F800000#32 = ⊤ := by
  simp [Ideal.ofBits, Ideal.ieee]

/-- An extended real whose absolute value is below `⊤` is neither infinity. -/
theorem finite_of_abs_lt (x : Ideal .f32) (h : (FloatOps.absf x : Ideal .f32) < (⊤ : EReal)) : x ≠ (⊤ : EReal) ∧ x ≠ (⊥ : EReal) := by
  constructor <;> rintro rfl <;> revert h <;> simp [Ideal.absf_def]

/-- The precondition, of row r: its mask is 0, or its mask is 1 and its entries are finite. -/
theorem row (t : FVec Ideal S8192x2048 .f32) (w : IVec S8192 1) (f s b : FVec Ideal S2048 .f32)
    (h : fn (F := Ideal) t w f s b = fun _ => 1#1) (r : Fin 8192) :
    (uitofp .f32 w : FVec Ideal S8192 .f32) (ix1 r) = (0 : EReal)
      ∨ (uitofp .f32 w : FVec Ideal S8192 .f32) (ix1 r) = (1 : EReal)
        ∧ ∀ k : Fin 2048, t (ix2 r k) ≠ (⊤ : EReal) ∧ t (ix2 r k) ≠ (⊥ : EReal) := by
  have h' : ∀ k : Fin 2048, fn (F := Ideal) t w f s b (ix2 r k) = 1#1 := fun k => congrFun h _
  pointwise [fn, fn_where] at h'
  rw [ofBits_infinity] at h'
  show (((w (ix1 r)).toNat : ℝ) : EReal) = 0 ∨ (((w (ix1 r)).toNat : ℝ) : EReal) = 1 ∧ _
  generalize w (ix1 r) = u at h' ⊢
  rcases (by decide : ∀ u : BitVec 1, u = 0#1 ∨ u = 1#1) u with rfl | rfl
  · left; simp
  · right
    refine ⟨by simp, fun k => finite_of_abs_lt _ ?_⟩
    have := h' k
    rw [ValueIdx.select_one] at this
    by_contra hn
    rw [decide_eq_false hn] at this
    exact absurd this (by decide)

end Cert.Pre_masked_rows_finite.Read

end
-- ==== Proof.lean ====
/-
  The proof of `Cert.Claim`: the three programs' frames, that the kernel's idealization rewrote nothing, and that in the
  extended reals the kernel's result is the reference's wherever the masked rows are finite.

  The mathematics is in `Proof/`: `Rows` (one row: the two algorithms agree), `Block` (what a grid point computes), `Array`
  (what the kernel's result array holds), `Reference` (what the reference computes, and what the precondition says).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_masked_rows_finite
public import proofs.«01_k».proof.Proof.Array
public import proofs.«01_k».proof.Proof.Reference
public import Idealize.ShloMosaic.Lib.Quiescent

@[expose] public section

noncomputable section

namespace Cert.Proof

open Idealize.ShloMosaic Idealize.ShloMosaic.TcCoe Idealize.SL.Sem

/-- The kernel ends, from any launch, with its arguments as they were and every semaphore at zero. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- And the reference, which is host operations only. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- In the extended reals the kernel and the reference end with equal results, where the masked rows are finite. -/
theorem equal : Cert.algebraic_KernelIdeal_ReferenceIdeal_pre_masked_rows_finite := by
  intro m ρ m' ρ' hpre hargs
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hargs c
  refine funext fun (i : Cert.ReferenceIdeal.S8192x2048.Idx) => ?_
  obtain ⟨r, l, rfl⟩ : ∃ (r : Fin 8192) (l : Fin 2048), i = ix2 r l :=
    ⟨i 0, i 1, funext fun a => by match a with | ⟨0, _⟩ => rfl | ⟨1, _⟩ => rfl⟩
  refine (Cert.ReferenceIdeal.Read.res_apply m' c r l).trans ?_
  rw [e0, e1, e2, e3, e4]
  exact (congrFun (Cert.Rows.gramRow_eq_sequentialRow _ _ _ _ _ (Cert.Pre_masked_rows_finite.Read.row _ _ _ _ _ (hpre c) r)) l).symm

/-- Everything the certificate claims. -/
theorem claim : Cert.Claim :=
  ⟨Cert.Kernel.Gen.facts, Cert.KernelIdeal.Gen.facts, Cert.ReferenceIdeal.Gen.facts, Cert.Pre_masked_rows_finite.Gen.facts,
    frame_kernel, frame_kernel_ideal, fun m ρ _ => frame_kernel_ideal m ρ trivial, frame_reference,
    fun m ρ _ => frame_reference m ρ trivial, trivial, equal⟩

end Cert.Proof

end
